-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S16384 : Shape := ⟨1, ![16384]⟩
abbrev S32 : Shape := ⟨1, ![32]⟩
abbrev S1 : Shape := ⟨1, ![1]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S16384x1024, .f32⟩
  | .hbm, ⟨3, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

abbrev grid0 : Pipeline.Grid := .none
-- ==== ReferenceIdeal.lean ====
abbrev S16384x1024 : Shape := ⟨2, ![16384, 1024]⟩
abbrev S16384 : Shape := ⟨1, ![16384]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩

abbrev nD : Nat := 1
abbrev τ : Topo := Topo.v7x

variable {F : FTy → Type} [FloatOps F]
-- ==== Proof.StripeCopy.lean ====
/-
  Hand-written, untrusted. A buffer copied rectangle by rectangle: a core issues one local transfer for each rectangle
  of a family that cuts a view into disjoint parts, each on a cell of its own, and then waits for every one of them.
  Whatever the family, the memrefs and the program's labels, the destination ends written with what the source reads,
  the source as it was, and every cell at zero again (`wp_copyAll`). The two printed programs run the same body, so
  both certificates cite this one file.
-/
module

public import Idealize.ShloMosaic.Lib.Transfers
public import Idealize.ShloMosaic.Lib.Pipeline.BigSepL
public import Idealize.ShloMosaic.Lib.Tactic

@[expose] public section

noncomputable section

namespace Cert.StripeCopy

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-! ## The two loops -/

section Programs

variable {Λ : Labels} {p : Proc τ} {I : Type} {sp sp' : Space} {s : Shape} {e : EltTy}
variable (A : Memref sig p.kind sp s e) (B : Memref sig p.kind sp' s e) (r : I → Rect s) (h1 : ∀ i a, (r i).stride a = 1)
  (cell : I → DmaSem sig)
  (hA : ∀ i, (A.slice (r i) (h1 i)).view.WordExact) (hB : ∀ i, (B.slice (r i) (h1 i)).view.WordExact)
  (hT : ∀ i, DmaTarget.Typed (nD := nD) (p := p) sp (.dma (cell i)) (.here (B.slice (r i) (h1 i))))

/-- One transfer per listed rectangle, from `A`'s part to `B`'s, on the rectangle's own cell. -/
def issueAll : List I → Prog (TpuEff nD τ sig Val Λ p) PUnit
  | [] => .ret ⟨⟩
  | i :: l => Prog.lift (.enqueueDma (A.slice (r i) (h1 i)) (.here (B.slice (r i) (h1 i))) (.dma (cell i)) (hA i) (hB i) (hT i))
      >>= fun _ => issueAll l

/-- One wait per listed rectangle, on the rectangle's own cell. -/
def waitAll : List I → Prog (TpuEff nD τ sig Val Λ p) PUnit
  | [] => .ret ⟨⟩
  | i :: l => Prog.lift (.waitDma2 (cell i) (A.slice (r i) (h1 i)) (B.slice (r i) (h1 i)) (hA i) (hB i)) >>= fun _ => waitAll l

end Programs

/-! ## What a part written by its transfer holds -/

section Parts

variable {κ : Kind} {sp sp' : Space} {s : Shape} {e : EltTy}

/-- On a part's elements, the part written with the part read is the whole written with the whole read. -/
theorem write_slice_read_slice (A : View sig κ sp s e) (B : View sig κ sp' s e) (r : Rect s)
    (fa : A.ty.Contents Val) (fb : B.ty.Contents Val) {i : B.ty.Idx} (hi : i ∈ (B.slice r).set) :
    (B.slice r).write Val fb ((A.slice r).read Val fa) Finset.univ i = B.write Val fb (A.read Val fa) Finset.univ i := by
  obtain ⟨x, -, rfl⟩ := Finset.mem_map.mp hi
  rw [View.write_emb_of_mem _ _ (Finset.mem_univ x)]
  exact (View.write_emb_of_mem (v := B) fb (A.read Val fa) (Finset.mem_univ (r.emb x))).symm

/-- Rectangles that cut the shape cut the elements under any view of that shape. -/
theorem biUnion_slice {I : Type} [Fintype I] (A : View sig κ sp s e) (r : I → Rect s)
    (hc : (Finset.univ : Finset I).biUnion (fun i => (r i).set) = Finset.univ) :
    (Finset.univ : Finset I).biUnion (fun i => (A.slice (r i)).set) = A.set := by
  ext y
  simp only [Finset.mem_biUnion, Finset.mem_univ, true_and]
  constructor
  · rintro ⟨i, hi⟩; exact View.set_slice_subset A (r i) hi
  · intro hy
    obtain ⟨x, -, rfl⟩ := Finset.mem_map.mp hy
    obtain ⟨i, -, hi⟩ := Finset.mem_biUnion.mp (hc.symm ▸ Finset.mem_univ x)
    exact ⟨i, by rw [View.set_slice]; exact Finset.mem_map_of_mem _ hi⟩

/-- Disjoint rectangles have disjoint elements under any view. -/
theorem disjoint_slice (A : View sig κ sp s e) {r r' : Rect s} (h : Disjoint r.set r'.set) :
    Disjoint (A.slice r).set (A.slice r').set := by
  rw [View.set_slice, View.set_slice]; exact (Finset.disjoint_map _).mpr h

end Parts

/-! ## The runs -/

section Runs

variable [Preorder Lvl] {Λ : Labels} {defs : Defs nD τ sig Val Λ} (𝒱 : Variants) (c : Thread nD τ) (bd : Option 𝒱.V)
variable {Q : PUnit → sProp (MT nD τ sig Ix Val Name U Lvl)} {I : Type} {sp sp' : Space} {s : Shape} {e : EltTy}
variable (EC : UEmb Counters (MT nD τ sig Ix Val Name U Lvl)) [EC.LandsIn (upEmb : UEmb _ (MT nD τ sig Ix Val Name U Lvl))]
variable (A : Memref sig c.2.kind sp s e) (B : Memref sig c.2.kind sp' s e) (r : I → Rect s) (h1 : ∀ i a, (r i).stride a = 1)
  (cell : I → DmaSem sig)
  (hA : ∀ i, (A.slice (r i) (h1 i)).view.WordExact) (hB : ∀ i, (B.slice (r i) (h1 i)).view.WordExact)
  (hT : ∀ i, DmaTarget.Typed (nD := nD) (p := c.2) sp (.dma (cell i)) (.here (B.slice (r i) (h1 i))))
  (q : PosShare TreeShare) (fa : Buf Val (A.view.loc c)) (fb : Buf Val (B.view.loc c))

/-- `A`'s part at rectangle `i`, at the contents `fa`. -/
abbrev partA (i : I) : sProp 𝕄 := (A.slice (r i) (h1 i)).view.loc c ↦[(A.slice (r i) (h1 i)).view.set]{q} fa
/-- `B`'s part at rectangle `i`, at the contents `f`. -/
abbrev partB (f : Buf Val (B.view.loc c)) (i : I) : sProp 𝕄 :=
  (B.slice (r i) (h1 i)).view.loc c ↦[(B.slice (r i) (h1 i)).view.set]{fullShare} f
/-- What the transfer of rectangle `i` delivers: `B`'s part written with what `A`'s reads, and `A`'s part back. -/
abbrev landed (i : I) : sProp 𝕄 :=
  iprop(((B.slice (r i) (h1 i)).view.loc c ↦[(B.slice (r i) (h1 i)).view.set]{fullShare}
      ((B.slice (r i) (h1 i)).view.write Val fb (ReadAs.same.apply ((A.slice (r i) (h1 i)).view.read Val fa)) Finset.univ))
    ∗ partA c A r h1 q fa i)

/-- Issuing the listed transfers turns the parts and the cells at zero into the transfers in flight. -/
theorem wp_issueAll [Infinite Name] (ι : Ix) (N : ℕ) (hN : ∀ i, (B.slice (r i) (h1 i)).view.amount (.dma (cell i)) = N) (hN0 : 0 < N)
    (l : List I) (k : PUnit → Prog (TpuEff nD τ sig Val Λ c.2) PUnit) :
    bigSepL l (fun i => iprop(partA c A r h1 q fa i ∗ partB c B r h1 fb i ∗ semVal (c, SemLoc.dma (cell i)) 0))
      ⊢ iprop((bigSepL l (fun i => Transfers.Flight EC c (.dma (cell i)) ι N (landed c A B r h1 q fa fb i))
              -∗ wp frame (wpE defs 𝒱 c bd) Set.univ (k ⟨⟩) Q)
          -∗ wp frame (wpE defs 𝒱 c bd) Set.univ (issueAll A B r h1 cell hA hB hT l >>= k) Q) := by
  induction l generalizing k with
  | nil =>
    iintro H Hk
    iapply Hk; iexact H
  | cons i l ih =>
    rw [bigSepL_cons', bigSepL_cons']
    iintro ⟨Hi, Hl⟩ Hk
    iapply (Transfers.wp_dmaLocal EC 𝒱 c bd (via := .same) (k := fun _ => issueAll A B r h1 cell hA hB hT l >>= k)
      ι N (hN i) hN0 subset_rfl) $$ Hi
    iintro Hf
    iapply (ih k) $$ Hl
    iintro Hl
    iapply Hk
    isplitl [Hf] <;> iassumption

/-- Waiting for the listed transfers collects what each delivers, its cell at zero. -/
theorem wp_waitAll (ι : Ix) (N : ℕ) (hN : ∀ i, (B.slice (r i) (h1 i)).view.dmaCredit = N) (D : I → sProp 𝕄)
    (l : List I) (k : PUnit → Prog (TpuEff nD τ sig Val Λ c.2) PUnit) (W : Waits sig Ix) :
    iprop(bigSepL l (fun i => Transfers.Flight EC c (.dma (cell i)) ι N (D i)) ∗ owes c 0 W)
      ⊢ iprop((iprop(bigSepL l (fun i => iprop(D i ∗ semVal (c, SemLoc.dma (cell i)) 0)) ∗ ∃ W', owes c 0 W')
              -∗ wp frame (wpE defs 𝒱 c bd) Set.univ (k ⟨⟩) Q)
          -∗ wp frame (wpE defs 𝒱 c bd) Set.univ (waitAll A B r h1 cell hA hB l >>= k) Q) := by
  induction l generalizing k W with
  | nil =>
    iintro ⟨H, HW⟩ Hk
    iapply Hk
    isplitl [H]; · iexact H
    iexists _; iexact HW
  | cons i l ih =>
    rw [bigSepL_cons', bigSepL_cons']
    iintro ⟨⟨Hi, Hl⟩, HW⟩ Hk
    iapply (Transfers.wp_waitLocal EC 𝒱 c bd (k := fun _ => waitAll A B r h1 cell hA hB l >>= k) ι (hN i)) $$ [Hi HW]
    · isplitl [Hi] <;> iassumption
    iintro ⟨HD, Hs, HW⟩
    iapply (ih k _) $$ [Hl HW]
    · isplitl [Hl] <;> iassumption
    iintro ⟨Hl, HW⟩
    iapply Hk
    isplitr [HW]
    · isplitr [Hl]; swap; · iexact Hl
      isplitl [HD] <;> iassumption
    · iexact HW

variable [Fintype I]
  (hd : ∀ i j, i ≠ j → Disjoint (r i).set (r j).set)
  (hc : (Finset.univ : Finset I).biUnion (fun i => (r i).set) = Finset.univ)

include hd hc in
/-- A view's elements are held part by part. -/
theorem held_parts {spv : Space} (M : Memref sig c.2.kind spv s e) (qv : PosShare TreeShare) (f : Buf Val (M.view.loc c)) :
    (M.view.loc c ↦[M.view.set]{qv} f : sProp 𝕄) = bigSep Finset.univ (partA c M r h1 qv f) := by
  rw [← biUnion_slice M.view r hc]
  exact pointsTo_biUnion Finset.univ _ fun i _ j _ h => disjoint_slice M.view (hd i j h)

include EC hd hc in
/-- Both loops, one after the other, over a family that cuts the shape into disjoint parts: the destination ends written
    with what the source reads, the source as it was, the cells at zero. -/
theorem wp_copyAll [DecidableEq I] [Infinite Name] (ι : Ix) (N : ℕ)
    (hN : ∀ i, (B.slice (r i) (h1 i)).view.amount (.dma (cell i)) = N)
    (hN' : ∀ i, (B.slice (r i) (h1 i)).view.dmaCredit = N) (hN0 : 0 < N)
    (l : List I) (hl : Finset.univ = l.toFinset) (hn : l.Nodup)
    (k : PUnit → Prog (TpuEff nD τ sig Val Λ c.2) PUnit) (W : Waits sig Ix) :
    iprop((A.view.loc c ↦[A.view.set]{q} fa) ∗ (B.view.loc c ↦[B.view.set]{fullShare} fb)
        ∗ bigSep Finset.univ (fun i => semVal (c, SemLoc.dma (cell i)) 0) ∗ owes c 0 W)
      ⊢ iprop((iprop((A.view.loc c ↦[A.view.set]{q} fa)
                ∗ (B.view.loc c ↦[B.view.set]{fullShare} (B.view.write Val fb (A.view.read Val fa) Finset.univ))
                ∗ bigSep Finset.univ (fun i => semVal (c, SemLoc.dma (cell i)) 0) ∗ ∃ W', owes c 0 W')
              -∗ wp frame (wpE defs 𝒱 c bd) Set.univ (k ⟨⟩) Q)
          -∗ wp frame (wpE defs 𝒱 c bd) Set.univ
              (issueAll A B r h1 cell hA hB hT l >>= fun _ => waitAll A B r h1 cell hA hB l >>= k) Q) := by
  have hland : (bigSep Finset.univ (fun i => landed c A B r h1 q fa fb i) : sProp 𝕄)
      = iprop((B.view.loc c ↦[B.view.set]{fullShare} (B.view.write Val fb (A.view.read Val fa) Finset.univ))
          ∗ (A.view.loc c ↦[A.view.set]{q} fa)) := by
    rw [held_parts c r h1 hd hc A q fa,
      held_parts c r h1 hd hc B fullShare (B.view.write Val fb (A.view.read Val fa) Finset.univ), ← bigSep_sep']
    refine congrArg _ (funext fun i => ?_)
    exact congrArg (fun X => iprop(X ∗ partA c A r h1 q fa i))
      (pointsTo_congr fun y hy => write_slice_read_slice A.view B.view (r i) fa fb hy)
  rw [held_parts c r h1 hd hc A q fa, held_parts c r h1 hd hc B fullShare fb]
  iintro ⟨HA, HB, HS, HW⟩ Hk
  iapply (wp_issueAll 𝒱 c bd EC A B r h1 cell hA hB hT q fa fb ι N hN hN0 l) $$ [HA HB HS]
  · rw [← bigSep_univ_eq_bigSepL l hl hn, bigSep_sep', bigSep_sep']
    isplitl [HA]; · iexact HA
    isplitl [HB] <;> iassumption
  iintro HF
  iapply (wp_waitAll 𝒱 c bd EC A B r h1 cell hA hB ι N hN' _ l) $$ [HF HW]
  · isplitl [HF] <;> iassumption
  rw [← bigSep_univ_eq_bigSepL l hl hn, bigSep_sep', hland, held_parts c r h1 hd hc A q fa]
  iintro ⟨⟨⟨HB, HA⟩, HS⟩, HW⟩
  iapply Hk
  isplitl [HA]; · iexact HA
  isplitl [HB]; · iexact HB
  isplitl [HS] <;> iassumption

end Runs

/-! ## The stripes of the two programs -/

/-- Every stripe lies inside the array. -/
theorem stripe_inb (i : Fin 32) : ∀ a, (![512 * i.val, 0] : Fin 2 → ℕ) a + (![512, 1024] : Fin 2 → ℕ) a ≤ (⟨2, ![16384, 1024]⟩ : Shape).size a := by
  revert i; decide

/-- Rows `512 i` to `512 i + 511`, every column. -/
abbrev stripe (i : Fin 32) : Rect (⟨2, ![16384, 1024]⟩ : Shape) := Rect.unit (s := ⟨2, ![16384, 1024]⟩) ![512 * i.val, 0] ![512, 1024] (stripe_inb i)

/-- Two different stripes share no element. -/
theorem stripe_disjoint (i j : Fin 32) (h : i ≠ j) : Disjoint (stripe i).set (stripe j).set := by
  have hv : i.val ≠ j.val := fun e => h (Fin.ext e)
  refine Finset.disjoint_left.mpr fun y hi hj => ?_
  have h1 := Rect.mem_set_unit.mp hi 0
  have h2 := Rect.mem_set_unit.mp hj 0
  simp only [Matrix.cons_val_zero] at h1 h2
  omega

/-- Every element lies in some stripe. -/
theorem stripe_cover : (Finset.univ : Finset (Fin 32)).biUnion (fun i => (stripe i).set) = Finset.univ := by
  ext y
  simp only [Finset.mem_biUnion, Finset.mem_univ, true_and, iff_true]
  have h0 : (y 0).val < 16384 := (y 0).isLt
  have h1 : (y 1).val < 1024 := (y 1).isLt
  refine ⟨⟨(y 0).val / 512, by omega⟩, Rect.mem_set_unit.mpr (Fin.forall_fin_two.mpr ⟨?_, ?_⟩)⟩
  · simp only [Matrix.cons_val_zero]; omega
  · simp only [Matrix.cons_val_one, Matrix.cons_val_zero]; omega

end Cert.StripeCopy

end
-- ==== Proof.KernelIdealRun.lean ====
/-
  Hand-written, untrusted. KernelIdeal's run at any interpretation of its floats: every execution terminates, nothing
  faults, the three argument arrays end as they were, the result in HBM ends holding what the first argument held, and
  every semaphore counter ends at zero. The body is read as two loops over the 32 stripes of 512 rows
  (`body_eq`: one transfer a stripe, then one wait a stripe), which StripeCopy.lean runs; the launch names the result as a
  buffer the body's own transfers write.
-/
module

public import proofs.«01_k».proof.Proof.Gen.KernelIdeal.Launch
public import proofs.«01_k».proof.Proof.Gen.KernelIdeal.Points
public import proofs.«01_k».proof.Proof.StripeCopy
public import Idealize.ShloMosaic.Lib.Pipeline.FrameBody
public import Idealize.ShloMosaic.Lib.Pipeline.FrameValue
public import Idealize.ShloMosaic.Lib.Tactic

@[expose] public section

noncomputable section

namespace Cert.KernelIdeal.Hand

open Cert.KernelIdeal Cert.KernelIdeal.Gen Cert.StripeCopy
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The cells and the body -/

/-- Every stripe's cell lies inside the array of cells. -/
theorem cell_inb (i : Fin 32) : ∀ a, (![i.val] : Fin 1 → ℕ) a + S1.size a ≤ S32.size a := by
  revert i; decide

/-- The cell stripe `i`'s transfer completes on. -/
abbrev cell (i : Fin 32) : DmaSem sig :=
  ((cc0_scratch0.slice (Rect.unit (s := S32) ![i.val] S1.size (cell_inb i))).squeeze S_ squeezes_S1_S_).sem

/-- The 32 cells are the pool's, in order. -/
theorem cell_eq : ∀ i : Fin 32, cell i = i := by decide

/-- The stripes in issue order. -/
abbrev order : List (Fin 32) :=
  [0, 1, 2, 3, 4, 5, 6, 7, 8, 9, 10, 11, 12, 13, 14, 15, 16, 17, 18, 19, 20, 21, 22, 23, 24, 25, 26, 27, 28, 29, 30, 31]

/-- The operand read, left in HBM. -/
abbrev srcM : Memref sig .tc .hbm S16384x1024 .f32 := Memref.whole main_arg0
/-- The operand written, left in HBM. -/
abbrev dstM : Memref sig .tc .hbm S16384x1024 .f32 := Memref.whole main_v0

/-- The body's first loop: one transfer a stripe. -/
abbrev issues : Prog (TpuEff nD τ sig (Elt F) Λ₀ .tc) PUnit :=
  issueAll srcM dstM stripe (fun _ _ => rfl) cell (fun _ => View.wordExact_bits rfl) (fun _ => View.wordExact_bits rfl)
    (fun _ => ⟨Or.inl rfl, trivial⟩) order
/-- The body's second loop: one wait a stripe. -/
abbrev waits : Prog (TpuEff nD τ sig (Elt F) Λ₀ .tc) PUnit :=
  waitAll srcM dstM stripe (fun _ _ => rfl) cell (fun _ => View.wordExact_bits rfl) (fun _ => View.wordExact_bits rfl) order

set_option maxRecDepth 65536 in
/-- The printed body is the two loops over the stripes. -/
theorem body_eq (t : Fin cfg0.N) : bodyAt0 (F := F) t = (issues >>= fun _ => waits >>= fun _ => .ret ⟨⟩) := rfl

/-! ## The launch's data -/

/-- The region's buffers as launched: @main computes nothing before the kernel. -/
abbrev V (c : Dev nD) (b : Ref sig .tc) : Buf (Elt F) ((c : Thread nD τ).loc b) := m ((c : Thread nD τ).loc b)

/-- What the kernel leaves: the result holding what the first argument held, the rest as launched. -/
def G (c : Dev nD) : (b : Ref sig .tc) → Buf (Elt F) ((c : Thread nD τ).loc b) :=
  Function.update (V m c) main_v0 (V m c main_arg0)

/-- The result is left holding what the first argument held. -/
theorem G_result (c : Dev nD) : G m c main_v0 = m ((c : Thread nD τ).loc main_arg0) := Function.update_self ..

/-- @main is the kernel's region and nothing before it. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body's own cells. -/
abbrev osem0 : Fin 32 → SemLoc sig := fun j => SemLoc.dma j
/-- The cells are scoped, distinct and no window's. -/
theorem ownSemFacts0 : Pipeline.OwnSemFacts (cfg0.spec) osem0 := by decide
/-- The buffer the transfers read. -/
def H0 : Finset (Ref sig .tc) := {main_arg0}
/-- The buffer the transfers write. -/
def R0 : Finset (Ref sig .tc) := {main_v0}
/-- The buffer read is no window's array. -/
theorem H0_sub : H0 ⊆ Pipeline.restRefs sig (cfg0.spec) := by decide
/-- The buffer written is no window's array and is not the one read. -/
theorem R0_sub : R0 ⊆ Pipeline.restRefs sig (cfg0.spec) \ H0 := by decide

/-- The invariant with the written buffer at `W`: no scoped buffer, the generator register, the cells at zero, the two arrays. -/
theorem Phi_eq (W : (c : Dev nD) → (b : Ref sig .tc) → Buf (Elt F) ((c : Thread nD τ).loc b)) (c : Dev nD) :
    (Pipeline.ΦDRG osem0 (cfg0.spec) H0 R0 (V m) W c : sProp 𝕄)
      = iprop(emp ∗ (∃ r, prngReg c r) ∗ (bigSep Finset.univ fun i : Fin 32 => semVal ((c : Thread nD τ), SemLoc.dma (cell i)) 0)
          ∗ (srcM.view.loc (c : Thread nD τ) ↦[srcM.view.set]{fullShare} V m c main_arg0)
          ∗ (dstM.view.loc (c : Thread nD τ) ↦[dstM.view.set]{fullShare} W c main_v0)) := by
  rw [Pipeline.ΦDRG_eq, scopedRest0_eq]
  unfold Pipeline.ownSems0 Pipeline.routed H0 R0
  simp only [cell_eq, bigSep_singleton, Memref.view_whole, View.set_whole]; rfl

/-- The proof data: no window, the invariant at the launch contents before the one point and at `G` after it. -/
def dats (_ : Fin 1) (c : Dev nD) : Dat τ (Elt F) Unit ℕ (Pipeline.UD sig nD τ) ℕ cfg0 c where
  A w := w.elim0
  after w := w.elim0
  Φ t := Pipeline.ΦDRG osem0 (cfg0.spec) H0 R0 (V m) (if t.val = 0 then V m else G m) c
  q _ := fullShare
  owed _ := 0

/-- Writing all of a whole buffer with what another whole buffer of its shape reads leaves that one's contents. -/
theorem write_all (c : Dev nD) (fa : Buf (Elt F) (srcM.view.loc (c : Thread nD τ))) (fb : Buf (Elt F) (dstM.view.loc (c : Thread nD τ))) :
    dstM.view.write (Elt F) fb (srcM.view.read (Elt F) fa) Finset.univ = fa :=
  funext fun x => View.write_emb_of_mem (v := dstM.view) fb (srcM.view.read (Elt F) fa) (Finset.mem_univ x)

/-- At the grid's one point the body takes the invariant at the launch contents to the invariant at `G`. -/
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
          (fun _ => iprop((dats m 0 c).Φ t.succ ∗ (dats m 0 c).owesAt () t.succ ∗ emp)) := by
  have ht : t.val = 0 := by have h : t.val < grid0.N := t.isLt; rw [N_0] at h; omega
  rw [show (dats m 0 c).Φ t.castSucc = Pipeline.ΦDRG osem0 (cfg0.spec) H0 R0 (V m) (V m) c from by
      dsimp only [dats]; rw [if_pos (by exact ht)],
    show (dats m 0 c).Φ t.succ = Pipeline.ΦDRG osem0 (cfg0.spec) H0 R0 (V m) (G m) c from by
      dsimp only [dats]; rw [if_neg (by simp)],
    Phi_eq, Phi_eq, G_result, body_eq]
  unfold Dat.owesAt Pipeline.owesWithin
  rw [show (dats m 0 c).owed t.castSucc = 0 from rfl, show (dats m 0 c).owed t.succ = 0 from rfl]
  iintro ⟨⟨-, Hg, HS, HA, HB⟩, ⟨%W, -, HW⟩, -⟩
  iapply (wp_copyAll Variants.none (c : Thread nD τ) none (countersEmb (U := Pipeline.UD sig nD τ)) srcM dstM stripe
    (fun _ _ => rfl) cell _ _ _ fullShare (V m c main_arg0) (V m c main_v0) stripe_disjoint stripe_cover ()
    ((dstM.slice (stripe 0) (fun _ => rfl)).view.dmaCredit) (fun _ => rfl) (fun _ => rfl) (by decide) order (by decide) (by decide) (fun _ => .ret ⟨⟩) W) $$ [HA HB HS HW]
  · isplitl [HA]; · iexact HA
    isplitl [HB]; · iexact HB
    isplitl [HS] <;> iassumption
  rw [write_all]
  iintro ⟨HA, HB, HS, ⟨%W', HW⟩⟩
  sl_step
  isplitl [Hg HA HB HS]
  · isplitr; · iempintro
    isplitl [Hg]; · iexact Hg
    isplitl [HS]; · iexact HS
    isplitl [HA] <;> iassumption
  isplitl [HW]
  · iexists W'; isplitr; · ipureintro; exact fun _ _ => Or.inl trivial
    iexact HW
  iempintro

/-- The body table's row is the body at the point. -/
theorem defs₀_row (t : Fin cfg0.N) :
    defs₀ (F := F) .tc cfg0.body (cfg0.bodyArgs t (cfg0.slots t)) = bodyAt0 t := by
  unfold defs₀; rw [Defs.onTc_tc]

/-- The launch theorem's obligation on the body. -/
theorem body_obligation (c : Dev nD) : BodyObligation (dats (F := F) m 0 c) (defs₀ (F := F)) Variants.none () Set.univ := fun t => by
  rw [show (Finset.univ : Finset (Fin cfg0.W)) = ∅ from rfl, bigSep_empty, bigSep_empty, defs₀_row]
  exact triple_restated (sound_body m c t) rfl .rfl fun _ => .rfl

/-! ## The run -/

set_option backward.isDefEq.respectTransparency.types false in
/-- The run: the launch theorem at the data above, the result named and the counters at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := fun _ w => w.elim0) (G := G m)
    (hin := fun c => by dsimp only [dats]; rw [if_pos (by rfl)])
    (hout := fun c => by dsimp only [dats]; rw [if_neg (by decide)])

/-- From any memory with its counters at zero: every execution terminates, the three arguments end unchanged, the result
    ends equal to the first argument, and every counter ends at zero. -/
theorem run : θ_run defs (onTc (τ := τ) (main (F := F))) ⟨m, fun _ => 0, ρ⟩ (fun r => (∀ c : Dev nD,
      r.2.mem ((c.tc : Thread nD τ).loc main_v0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    have arg (b : Ref sig .tc) (h₁ : b ∈ Pipeline.restRefs sig (cfg0.spec)) (h₂ : b ∉ R0) : _ = V m c b := (h.1.toR c).2 b (Finset.mem_sdiff.mpr ⟨h₁, h₂⟩)
    ⟨(h.1.written c (by decide)).trans (G_result m c), arg main_arg0 (by decide) (by decide),
      arg main_arg1 (by decide) (by decide), arg main_arg2 (by decide) (by decide)⟩, h.2⟩) (run_main m ρ)

end Cert.KernelIdeal.Hand

end
-- ==== Proof.lean ====
/-
  Hand-written, untrusted. The claims about the stripe copy.

    quiescent_* — every execution of each program terminates, nothing faults, the arguments end unchanged and every
      semaphore counter ends at zero.
    preserves — the idealization rewrites no operation.
    algebraic — the kernel's one result and the reference's are equal element by element: both end holding what the first
      argument held.

  The kernel's two programs are run in Proof/KernelRun.lean and Proof/KernelIdealRun.lean, over the rule of
  Proof/StripeCopy.lean for a buffer copied stripe by stripe.
-/
module

public import proofs.«01_k».proof.Defs
public import proofs.«01_k».proof.Proof.Gen.ReferenceIdeal
public import proofs.«01_k».proof.Proof.KernelRun
public import proofs.«01_k».proof.Proof.KernelIdealRun
public import Idealize.ShloMosaic.Lib.Claim
public import Idealize.ShloMosaic.Adequacy
public import Idealize.ShloMosaic.Init

@[expose] public section

noncomputable section

namespace Cert.Proof

open Idealize.ShloMosaic Idealize.SL.Sem

/-- The kernel's frame at the bit patterns. -/
theorem quiescent_kernel : Cert.quiescent_Kernel (hKernel := Cert.Kernel.Gen.facts) := fun m g _ =>
  (θ_run _ _ _).mono (fun _ h => ⟨fun c => (h.1 c).2, h.2⟩) (Cert.Kernel.Hand.run m g)

/-- The idealized kernel's frame. -/
theorem quiescent_kernelIdeal : Cert.quiescent_KernelIdeal (hKernelIdeal := Cert.KernelIdeal.Gen.facts) := fun m g _ =>
  (θ_run _ _ _).mono (fun _ h => ⟨fun c => (h.1 c).2, h.2⟩) (Cert.KernelIdeal.Hand.run m g)

/-- The reference's frame: it returns its argument and declares no semaphore. -/
theorem quiescent_referenceIdeal : Cert.quiescent_ReferenceIdeal (hReferenceIdeal := Cert.ReferenceIdeal.Gen.facts) := by
  intro m g _
  hlo_run
  · exact fun _ => ⟨trivial, trivial, trivial⟩
  · exact sem_eq_zero_of_no_sems (by decide) _

/-- The kernel's result and the reference's are both the first argument. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Hand.run m g
  · hlo_run

/-- Every claim of this directory. -/
theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
